-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unsaturated [hPre_unsaturated : Cert.Pre_unsaturated.Facts] (m : (ℓ : Loc Cert.KernelIdeal.nD Cert.KernelIdeal.τ Cert.KernelIdeal.sig) → Buf (Elt Ideal) ℓ) : Prop :=
  ∀ c : Dev Cert.KernelIdeal.nD,
    (Cert.Pre_unsaturated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unsaturated [hPre_unsaturated : Cert.Pre_unsaturated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unsaturated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_unsaturated [hKernelIdeal : Cert.KernelIdeal.Facts] [hPre_unsaturated : Cert.Pre_unsaturated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unsaturated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_unsaturated [hReferenceIdeal : Cert.ReferenceIdeal.Facts] [hPre_unsaturated : Cert.Pre_unsaturated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unsaturated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_unsaturated [hKernelIdeal : Cert.KernelIdeal.Facts] [hReferenceIdeal : Cert.ReferenceIdeal.Facts] [hPre_unsaturated : Cert.Pre_unsaturated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unsaturated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_ReferenceIdeal_on_unsaturated [hKernelIdeal : Cert.KernelIdeal.Facts] [hReferenceIdeal : Cert.ReferenceIdeal.Facts] [hOn_unsaturated : Cert.On_unsaturated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 1083, 85]⟩ : Shape).Idx, (Cert.On_unsaturated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 1083, 85]⟩ : Shape).Idx, (Cert.On_unsaturated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v77) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_unsaturated : Cert.Pre_unsaturated.Facts) (hOn_unsaturated : Cert.On_unsaturated.Facts),
    quiescent_Kernel (hKernel := hKernel)
    ∧ quiescent_KernelIdeal (hKernelIdeal := hKernelIdeal)
    ∧ quiescent_KernelIdeal_pre_unsaturated (hKernelIdeal := hKernelIdeal) (hPre_unsaturated := hPre_unsaturated)
    ∧ quiescent_ReferenceIdeal (hReferenceIdeal := hReferenceIdeal)
    ∧ quiescent_ReferenceIdeal_pre_unsaturated (hReferenceIdeal := hReferenceIdeal) (hPre_unsaturated := hPre_unsaturated)
    ∧ preserves_Kernel_KernelIdeal
    ∧ algebraic_KernelIdeal_ReferenceIdeal_pre_unsaturated (hKernelIdeal := hKernelIdeal) (hReferenceIdeal := hReferenceIdeal) (hPre_unsaturated := hPre_unsaturated)
    ∧ algebraic_KernelIdeal_ReferenceIdeal_on_unsaturated (hKernelIdeal := hKernelIdeal) (hReferenceIdeal := hReferenceIdeal) (hOn_unsaturated := hOn_unsaturated)
-- ==== On_unsaturated.lean ====
abbrev S16x1024x19x19 : Shape := ⟨4, ![16, 1024, 19, 19]⟩
abbrev S255x1024 : Shape := ⟨2, ![255, 1024]⟩
abbrev S255 : Shape := ⟨1, ![255]⟩
abbrev S255x16x19x19 : Shape := ⟨4, ![255, 16, 19, 19]⟩
abbrev S16x255x19x19 : Shape := ⟨4, ![16, 255, 19, 19]⟩
abbrev S1x255x1x1 : Shape := ⟨4, ![1, 255, 1, 1]⟩
abbrev S16x3x85x19x19 : Shape := ⟨5, ![16, 3, 85, 19, 19]⟩
abbrev S16x3x19x19x85 : Shape := ⟨5, ![16, 3, 19, 19, 85]⟩
abbrev S_ : Shape := ⟨0, ![]⟩
abbrev S16x1083x85 : Shape := ⟨3, ![16, 1083, 85]⟩

class Facts : Prop where
  transposes_S255x16x19x19_S16x255x19x19_1_0_2_3 : S255x16x19x19.Transposes [1, 0, 2, 3] S16x255x19x19
  bcast_S255_S1x255x1x1_1 : S255.BroadcastsInDim S1x255x1x1 (![1] : Fin 1 → Fin S1x255x1x1.rank)
  bcast_S1x255x1x1_S16x255x19x19_0_1_2_3 : S1x255x1x1.BroadcastsInDim S16x255x19x19 (![0, 1, 2, 3] : Fin 4 → Fin S16x255x19x19.rank)
  shapeCasts_S16x255x19x19_S16x3x85x19x19 : S16x255x19x19.ShapeCasts S16x3x85x19x19
  transposes_S16x3x85x19x19_S16x3x19x19x85_0_1_3_4_2 : S16x3x85x19x19.Transposes [0, 1, 3, 4, 2] S16x3x19x19x85
  bcast_S_S16x3x19x19x85 : S_.BroadcastsInDim S16x3x19x19x85 (![] : Fin 0 → Fin S16x3x19x19x85.rank)
  shapeCasts_S16x3x19x19x85_S16x1083x85 : S16x3x19x19x85.ShapeCasts S16x1083x85
  dot_S255x1024_S16x1024x19x19_S255x16x19x19_1_1_0_023_n_n_wf : DotDims.WF S255x1024 S16x1024x19x19 S255x16x19x19 [1] [1] [0] [0, 2, 3] [] []

variable [Facts]

def dot_S255x1024_S16x1024x19x19_S255x16x19x19_1_1_0_023_n_n : DotDims S255x1024 S16x1024x19x19 S255x16x19x19 where
  lhsContracting := [1]
  rhsContracting := [1]
  lhsNonContracting := [0]
  rhsNonContracting := [0, 2, 3]
  lhsBatch := []
  rhsBatch := []
  wf := dot_S255x1024_S16x1024x19x19_S255x16x19x19_1_1_0_023_n_n_wf
def fn {F : FTy → Type} [FloatOps F] (main_arg0 : FVec F S16x1024x19x19 .f32) (main_arg1 : FVec F S255x1024 .f32) (main_arg2 : FVec F S255 .f32) : IVec S16x1083x85 1 :=
  let main_v0 : FVec F S255x16x19x19 .f32 := (fun l r => Host.dotGeneral dot_S255x1024_S16x1024x19x19_S255x16x19x19_1_1_0_023_n_n none l r) main_arg1 main_arg0
  let main_v1 : FVec F S16x255x19x19 .f32 := (transpose S16x255x19x19 [1, 0, 2, 3] · transposes_S255x16x19x19_S16x255x19x19_1_0_2_3) main_v0
  let main_v2 : FVec F S1x255x1x1 .f32 := broadcastInDim S1x255x1x1 ![1] bcast_S255_S1x255x1x1_1 main_arg2
  let main_v3 : FVec F S16x255x19x19 .f32 := broadcastInDim S16x255x19x19 ![0, 1, 2, 3] bcast_S1x255x1x1_S16x255x19x19_0_1_2_3 main_v2
  let main_v4 : FVec F S16x255x19x19 .f32 := addf main_v1 main_v3
  let main_v5 : FVec F S16x3x85x19x19 .f32 := shapeCast S16x3x85x19x19 main_v4 shapeCasts_S16x255x19x19_S16x3x85x19x19
  let main_v6 : FVec F S16x3x19x19x85 .f32 := (transpose S16x3x19x19x85 [0, 1, 3, 4, 2] · transposes_S16x3x85x19x19_S16x3x19x19x85_0_1_3_4_2) main_v5
  let main_v7 : IVec S16x3x19x19x85 32 := iotaInDim S16x3x19x19x85 32 4
  let main_c : IVec S_ 32 := constantI S_ 32 2#32
  let main_v8 : IVec S16x3x19x19x85 32 := broadcastInDim S16x3x19x19x85 ![] bcast_S_S16x3x19x19x85 main_c
  let main_v9 : IVec S16x3x19x19x85 1 := cmpi .eq main_v7 main_v8
  let main_c_0 : IVec S_ 32 := constantI S_ 32 3#32
  let main_v10 : IVec S16x3x19x19x85 32 := broadcastInDim S16x3x19x19x85 ![] bcast_S_S16x3x19x19x85 main_c_0
  let main_v11 : IVec S16x3x19x19x85 1 := cmpi .eq main_v7 main_v10
  let main_v12 : IVec S16x3x19x19x85 1 := ori main_v9 main_v11
  let main_cst : FVec F S_ .f32 := constant S_ .f32 0x41A00000#32
  let main_v13 : FVec F S16x3x19x19x85 .f32 := broadcastInDim S16x3x19x19x85 ![] bcast_S_S16x3x19x19x85 main_cst
  let main_v14 : IVec S16x3x19x19x85 1 := cmpf .ole main_v6 main_v13
  let main_v15 : IVec S16x3x19x19x85 1 := ori main_v12 main_v14
  let main_v16 : IVec S16x1083x85 1 := shapeCast S16x1083x85 main_v15 shapeCasts_S16x3x19x19x85_S16x1083x85
  main_v16
-- ==== Pre_unsaturated.lean ====
abbrev S16x1024x19x19 : Shape := ⟨4, ![16, 1024, 19, 19]⟩
abbrev S255x1024 : Shape := ⟨2, ![255, 1024]⟩
abbrev S255 : Shape := ⟨1, ![255]⟩
abbrev S255x16x19x19 : Shape := ⟨4, ![255, 16, 19, 19]⟩
abbrev S16x255x19x19 : Shape := ⟨4, ![16, 255, 19, 19]⟩
abbrev S1x255x1x1 : Shape := ⟨4, ![1, 255, 1, 1]⟩
abbrev S16x3x85x19x19 : Shape := ⟨5, ![16, 3, 85, 19, 19]⟩
abbrev S16x3x19x19x85 : Shape := ⟨5, ![16, 3, 19, 19, 85]⟩
abbrev S_ : Shape := ⟨0, ![]⟩
abbrev S16x1083x85 : Shape := ⟨3, ![16, 1083, 85]⟩

class Facts : Prop where
  transposes_S255x16x19x19_S16x255x19x19_1_0_2_3 : S255x16x19x19.Transposes [1, 0, 2, 3] S16x255x19x19
  bcast_S255_S1x255x1x1_1 : S255.BroadcastsInDim S1x255x1x1 (![1] : Fin 1 → Fin S1x255x1x1.rank)
  bcast_S1x255x1x1_S16x255x19x19_0_1_2_3 : S1x255x1x1.BroadcastsInDim S16x255x19x19 (![0, 1, 2, 3] : Fin 4 → Fin S16x255x19x19.rank)
  shapeCasts_S16x255x19x19_S16x3x85x19x19 : S16x255x19x19.ShapeCasts S16x3x85x19x19
  transposes_S16x3x85x19x19_S16x3x19x19x85_0_1_3_4_2 : S16x3x85x19x19.Transposes [0, 1, 3, 4, 2] S16x3x19x19x85
  bcast_S_S16x3x19x19x85 : S_.BroadcastsInDim S16x3x19x19x85 (![] : Fin 0 → Fin S16x3x19x19x85.rank)
  shapeCasts_S16x3x19x19x85_S16x1083x85 : S16x3x19x19x85.ShapeCasts S16x1083x85
  dot_S255x1024_S16x1024x19x19_S255x16x19x19_1_1_0_023_n_n_wf : DotDims.WF S255x1024 S16x1024x19x19 S255x16x19x19 [1] [1] [0] [0, 2, 3] [] []

variable [Facts]

def dot_S255x1024_S16x1024x19x19_S255x16x19x19_1_1_0_023_n_n : DotDims S255x1024 S16x1024x19x19 S255x16x19x19 where
  lhsContracting := [1]
  rhsContracting := [1]
  lhsNonContracting := [0]
  rhsNonContracting := [0, 2, 3]
  lhsBatch := []
  rhsBatch := []
  wf := dot_S255x1024_S16x1024x19x19_S255x16x19x19_1_1_0_023_n_n_wf
def fn {F : FTy → Type} [FloatOps F] (main_arg0 : FVec F S16x1024x19x19 .f32) (main_arg1 : FVec F S255x1024 .f32) (main_arg2 : FVec F S255 .f32) : IVec S16x1083x85 1 :=
  let main_v0 : FVec F S255x16x19x19 .f32 := (fun l r => Host.dotGeneral dot_S255x1024_S16x1024x19x19_S255x16x19x19_1_1_0_023_n_n none l r) main_arg1 main_arg0
  let main_v1 : FVec F S16x255x19x19 .f32 := (transpose S16x255x19x19 [1, 0, 2, 3] · transposes_S255x16x19x19_S16x255x19x19_1_0_2_3) main_v0
  let main_v2 : FVec F S1x255x1x1 .f32 := broadcastInDim S1x255x1x1 ![1] bcast_S255_S1x255x1x1_1 main_arg2
  let main_v3 : FVec F S16x255x19x19 .f32 := broadcastInDim S16x255x19x19 ![0, 1, 2, 3] bcast_S1x255x1x1_S16x255x19x19_0_1_2_3 main_v2
  let main_v4 : FVec F S16x255x19x19 .f32 := addf main_v1 main_v3
  let main_v5 : FVec F S16x3x85x19x19 .f32 := shapeCast S16x3x85x19x19 main_v4 shapeCasts_S16x255x19x19_S16x3x85x19x19
  let main_v6 : FVec F S16x3x19x19x85 .f32 := (transpose S16x3x19x19x85 [0, 1, 3, 4, 2] · transposes_S16x3x85x19x19_S16x3x19x19x85_0_1_3_4_2) main_v5
  let main_v7 : IVec S16x3x19x19x85 32 := iotaInDim S16x3x19x19x85 32 4
  let main_c : IVec S_ 32 := constantI S_ 32 2#32
  let main_v8 : IVec S16x3x19x19x85 32 := broadcastInDim S16x3x19x19x85 ![] bcast_S_S16x3x19x19x85 main_c
  let main_v9 : IVec S16x3x19x19x85 1 := cmpi .eq main_v7 main_v8
  let main_c_0 : IVec S_ 32 := constantI S_ 32 3#32
  let main_v10 : IVec S16x3x19x19x85 32 := broadcastInDim S16x3x19x19x85 ![] bcast_S_S16x3x19x19x85 main_c_0
  let main_v11 : IVec S16x3x19x19x85 1 := cmpi .eq main_v7 main_v10
  let main_v12 : IVec S16x3x19x19x85 1 := ori main_v9 main_v11
  let main_cst : FVec F S_ .f32 := constant S_ .f32 0x41A00000#32
  let main_v13 : FVec F S16x3x19x19x85 .f32 := broadcastInDim S16x3x19x19x85 ![] bcast_S_S16x3x19x19x85 main_cst
  let main_v14 : IVec S16x3x19x19x85 1 := cmpf .ole main_v6 main_v13
  let main_v15 : IVec S16x3x19x19x85 1 := ori main_v12 main_v14
  let main_v16 : IVec S16x1083x85 1 := shapeCast S16x1083x85 main_v15 shapeCasts_S16x3x19x19x85_S16x1083x85
  main_v16
-- ==== Kernel.lean ====
abbrev S16x1024x19x19 : Shape := ⟨4, ![16, 1024, 19, 19]⟩
abbrev S255x1024 : Shape := ⟨2, ![255, 1024]⟩
abbrev S255 : Shape := ⟨1, ![255]⟩
abbrev S1x255 : Shape := ⟨2, ![1, 255]⟩
abbrev S361x255 : Shape := ⟨2, ![361, 255]⟩
abbrev S16x1024x361 : Shape := ⟨3, ![16, 1024, 361]⟩
abbrev S16x1083x85 : Shape := ⟨3, ![16, 1083, 85]⟩
abbrev S8x1024x361 : Shape := ⟨3, ![8, 1024, 361]⟩
abbrev S8x1083x85 : Shape := ⟨3, ![8, 1083, 85]⟩
abbrev S1x1024x361 : Shape := ⟨3, ![1, 1024, 361]⟩
abbrev S1024x361 : Shape := ⟨2, ![1024, 361]⟩
abbrev S361x85 : Shape := ⟨2, ![361, 85]⟩
abbrev S1x361x85 : Shape := ⟨3, ![1, 361, 85]⟩

abbrev nBuf : Space → Nat
  | .hbm => 9
  | .vmem => 9
  | .smem => 0
  | _ => 0

abbrev bufTy : (tb : Table) → Fin (tcTables nBuf tb) → BufTy
  | .hbm, ⟨0, _⟩ => ⟨S16x1024x19x19, .f32⟩
  | .hbm, ⟨1, _⟩ => ⟨S255x1024, .f32⟩
  | .hbm, ⟨2, _⟩ => ⟨S255, .f32⟩
  | .hbm, ⟨3, _⟩ => ⟨S1x255, .f32⟩
  | .hbm, ⟨4, _⟩ => ⟨S1x255, .f32⟩
  | .hbm, ⟨5, _⟩ => ⟨S361x255, .f32⟩
  | .hbm, ⟨6, _⟩ => ⟨S16x1024x361, .f32⟩
  | .hbm, ⟨7, _⟩ => ⟨S1x255, .f32⟩
  | .hbm, ⟨8, _⟩ => ⟨S16x1083x85, .f32⟩
  | .local _ .vmem, ⟨0, _⟩ => ⟨S8x1024x361, .f32⟩
  | .local _ .vmem, ⟨1, _⟩ => ⟨S8x1024x361, .f32⟩
  | .local _ .vmem, ⟨2, _⟩ => ⟨S255x1024, .f32⟩
  | .local _ .vmem, ⟨3, _⟩ => ⟨S1x255, .f32⟩
  | .local _ .vmem, ⟨4, _⟩ => ⟨S1x255, .f32⟩
  | .local _ .vmem, ⟨5, _⟩ => ⟨S1x255, .f32⟩
  | .local _ .vmem, ⟨6, _⟩ => ⟨S361x255, .f32⟩
  | .local _ .vmem, ⟨7, _⟩ => ⟨S8x1083x85, .f32⟩
  | .local _ .vmem, ⟨8, _⟩ => ⟨S8x1083x85, .f32⟩
  | _, _ => ⟨S16x1024x19x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x361 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S255x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x255 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x255 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x255 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S361x255 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1083x85 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x1024x19x19 : Shape := ⟨4, ![16, 1024, 19, 19]⟩
abbrev S255x1024 : Shape := ⟨2, ![255, 1024]⟩
abbrev S255 : Shape := ⟨1, ![255]⟩
abbrev S2 : Shape := ⟨1, ![2]⟩
abbrev S3x2 : Shape := ⟨2, ![3, 2]⟩
abbrev S255x16x19x19 : Shape := ⟨4, ![255, 16, 19, 19]⟩
abbrev S16x255x19x19 : Shape := ⟨4, ![16, 255, 19, 19]⟩
abbrev S1x255x1x1 : Shape := ⟨4, ![1, 255, 1, 1]⟩
abbrev S16x3x85x19x19 : Shape := ⟨5, ![16, 3, 85, 19, 19]⟩
abbrev S16x3x19x19x85 : Shape := ⟨5, ![16, 3, 19, 19, 85]⟩
abbrev S_ : Shape := ⟨0, ![]⟩
abbrev S85 : Shape := ⟨1, ![85]⟩
abbrev S2x1 : Shape := ⟨2, ![2, 1]⟩
abbrev S81 : Shape := ⟨1, ![81]⟩
abbrev S81x1 : Shape := ⟨2, ![81, 1]⟩
abbrev S19 : Shape := ⟨1, ![19]⟩
abbrev S1x1x1x19 : Shape := ⟨4, ![1, 1, 1, 19]⟩
abbrev S1x1x19x1 : Shape := ⟨4, ![1, 1, 19, 1]⟩
abbrev S3x1 : Shape := ⟨2, ![3, 1]⟩
abbrev S3 : Shape := ⟨1, ![3]⟩
abbrev S1x3x1x1 : Shape := ⟨4, ![1, 3, 1, 1]⟩
abbrev S16x3x19x19x1 : Shape := ⟨5, ![16, 3, 19, 19, 1]⟩
abbrev S16x3x19x19 : Shape := ⟨4, ![16, 3, 19, 19]⟩
abbrev S16x3x19x19x4 : Shape := ⟨5, ![16, 3, 19, 19, 4]⟩
abbrev S16x3x19x19x81 : Shape := ⟨5, ![16, 3, 19, 19, 81]⟩
abbrev S16x1083x85 : Shape := ⟨3, ![16, 1083, 85]⟩

abbrev nBuf : Space → Nat
  | .hbm => 98
  | .vmem => 0
  | .smem => 0
  | _ => 0

abbrev bufTy : (tb : Table) → Fin (tcTables nBuf tb) → BufTy
  | .hbm, ⟨0, _⟩ => ⟨S16x1024x19x19, .f32⟩
  | .hbm, ⟨1, _⟩ => ⟨S255x1024, .f32⟩
  | .hbm, ⟨2, _⟩ => ⟨S255, .f32⟩
  | .hbm, ⟨3, _⟩ => ⟨S2, .i32⟩
  | .hbm, ⟨4, _⟩ => ⟨S3x2, .f32⟩
  | .hbm, ⟨5, _⟩ => ⟨S255x16x19x19, .f32⟩
  | .hbm, ⟨6, _⟩ => ⟨S16x255x19x19, .f32⟩
  | .hbm, ⟨7, _⟩ => ⟨S1x255x1x1, .f32⟩
  | .hbm, ⟨8, _⟩ => ⟨S16x255x19x19, .f32⟩
  | .hbm, ⟨9, _⟩ => ⟨S16x255x19x19, .f32⟩
  | .hbm, ⟨10, _⟩ => ⟨S16x3x85x19x19, .f32⟩
  | .hbm, ⟨11, _⟩ => ⟨S16x3x19x19x85, .f32⟩
  | .hbm, ⟨12, _⟩ => ⟨S_, .i1⟩
  | .hbm, ⟨13, _⟩ => ⟨S85, .i1⟩
  | .hbm, ⟨14, _⟩ => ⟨S_, .i32⟩
  | .hbm, ⟨15, _⟩ => ⟨S2, .i32⟩
  | .hbm, ⟨16, _⟩ => ⟨S2, .i1⟩
  | .hbm, ⟨17, _⟩ => ⟨S_, .i32⟩
  | .hbm, ⟨18, _⟩ => ⟨S2, .i32⟩
  | .hbm, ⟨19, _⟩ => ⟨S2, .i32⟩
  | .hbm, ⟨20, _⟩ => ⟨S2, .i32⟩
  | .hbm, ⟨21, _⟩ => ⟨S2x1, .i32⟩
  | .hbm, ⟨22, _⟩ => ⟨S_, .i1⟩
  | .hbm, ⟨23, _⟩ => ⟨S2, .i1⟩
  | .hbm, ⟨24, _⟩ => ⟨S85, .i1⟩
  | .hbm, ⟨25, _⟩ => ⟨S81, .i32⟩
  | .hbm, ⟨26, _⟩ => ⟨S_, .i32⟩
  | .hbm, ⟨27, _⟩ => ⟨S81, .i32⟩
  | .hbm, ⟨28, _⟩ => ⟨S81, .i32⟩
  | .hbm, ⟨29, _⟩ => ⟨S_, .i32⟩
  | .hbm, ⟨30, _⟩ => ⟨S81, .i32⟩
  | .hbm, ⟨31, _⟩ => ⟨S81, .i1⟩
  | .hbm, ⟨32, _⟩ => ⟨S_, .i32⟩
  | .hbm, ⟨33, _⟩ => ⟨S81, .i32⟩
  | .hbm, ⟨34, _⟩ => ⟨S81, .i32⟩
  | .hbm, ⟨35, _⟩ => ⟨S81, .i32⟩
  | .hbm, ⟨36, _⟩ => ⟨S81x1, .i32⟩
  | .hbm, ⟨37, _⟩ => ⟨S_, .i1⟩
  | .hbm, ⟨38, _⟩ => ⟨S81, .i1⟩
  | .hbm, ⟨39, _⟩ => ⟨S85, .i1⟩
  | .hbm, ⟨40, _⟩ => ⟨S16x3x19x19x85, .f32⟩
  | .hbm, ⟨41, _⟩ => ⟨S16x3x19x19x85, .f32⟩
  | .hbm, ⟨42, _⟩ => ⟨S_, .f32⟩
  | .hbm, ⟨43, _⟩ => ⟨S16x3x19x19x85, .f32⟩
  | .hbm, ⟨44, _⟩ => ⟨S16x3x19x19x85, .f32⟩
  | .hbm, ⟨45, _⟩ => ⟨S_, .f32⟩
  | .hbm, ⟨46, _⟩ => ⟨S16x3x19x19x85, .f32⟩
  | .hbm, ⟨47, _⟩ => ⟨S16x3x19x19x85, .f32⟩
  | .hbm, ⟨48, _⟩ => ⟨S16x3x19x19x85, .i1⟩
  | .hbm, ⟨49, _⟩ => ⟨S16x3x19x19x85, .f32⟩
  | .hbm, ⟨50, _⟩ => ⟨S19, .f32⟩
  | .hbm, ⟨51, _⟩ => ⟨S1x1x1x19, .f32⟩
  | .hbm, ⟨52, _⟩ => ⟨S19, .f32⟩
  | .hbm, ⟨53, _⟩ => ⟨S1x1x19x1, .f32⟩
  | .hbm, ⟨54, _⟩ => ⟨S3x1, .f32⟩
  | .hbm, ⟨55, _⟩ => ⟨S3, .f32⟩
  | .hbm, ⟨56, _⟩ => ⟨S1x3x1x1, .f32⟩
  | .hbm, ⟨57, _⟩ => ⟨S3x1, .f32⟩
  | .hbm, ⟨58, _⟩ => ⟨S3, .f32⟩
  | .hbm, ⟨59, _⟩ => ⟨S1x3x1x1, .f32⟩
  | .hbm, ⟨60, _⟩ => ⟨S16x3x19x19x1, .f32⟩
  | .hbm, ⟨61, _⟩ => ⟨S16x3x19x19, .f32⟩
  | .hbm, ⟨62, _⟩ => ⟨S16x3x19x19, .f32⟩
  | .hbm, ⟨63, _⟩ => ⟨S16x3x19x19, .f32⟩
  | .hbm, ⟨64, _⟩ => ⟨S_, .f32⟩
  | .hbm, ⟨65, _⟩ => ⟨S16x3x19x19, .f32⟩
  | .hbm, ⟨66, _⟩ => ⟨S16x3x19x19, .f32⟩
  | .hbm, ⟨67, _⟩ => ⟨S16x3x19x19x1, .f32⟩
  | .hbm, ⟨68, _⟩ => ⟨S16x3x19x19, .f32⟩
  | .hbm, ⟨69, _⟩ => ⟨S16x3x19x19, .f32⟩
  | .hbm, ⟨70, _⟩ => ⟨S16x3x19x19, .f32⟩
  | .hbm, ⟨71, _⟩ => ⟨S_, .f32⟩
  | .hbm, ⟨72, _⟩ => ⟨S16x3x19x19, .f32⟩
  | .hbm, ⟨73, _⟩ => ⟨S16x3x19x19, .f32⟩
  | .hbm, ⟨74, _⟩ => ⟨S16x3x19x19x1, .f32⟩
  | .hbm, ⟨75, _⟩ => ⟨S16x3x19x19, .f32⟩
  | .hbm, ⟨76, _⟩ => ⟨S16x3x19x19, .f32⟩
  | .hbm, ⟨77, _⟩ => ⟨S16x3x19x19, .f32⟩
  | .hbm, ⟨78, _⟩ => ⟨S16x3x19x19, .f32⟩
  | .hbm, ⟨79, _⟩ => ⟨S_, .f32⟩
  | .hbm, ⟨80, _⟩ => ⟨S16x3x19x19, .f32⟩
  | .hbm, ⟨81, _⟩ => ⟨S16x3x19x19, .f32⟩
  | .hbm, ⟨82, _⟩ => ⟨S16x3x19x19x1, .f32⟩
  | .hbm, ⟨83, _⟩ => ⟨S16x3x19x19, .f32⟩
  | .hbm, ⟨84, _⟩ => ⟨S16x3x19x19, .f32⟩
  | .hbm, ⟨85, _⟩ => ⟨S16x3x19x19, .f32⟩
  | .hbm, ⟨86, _⟩ => ⟨S16x3x19x19, .f32⟩
  | .hbm, ⟨87, _⟩ => ⟨S_, .f32⟩
  | .hbm, ⟨88, _⟩ => ⟨S16x3x19x19, .f32⟩
  | .hbm, ⟨89, _⟩ => ⟨S16x3x19x19, .f32⟩
  | .hbm, ⟨90, _⟩ => ⟨S16x3x19x19x1, .f32⟩
  | .hbm, ⟨91, _⟩ => ⟨S16x3x19x19x1, .f32⟩
  | .hbm, ⟨92, _⟩ => ⟨S16x3x19x19x1, .f32⟩
  | .hbm, ⟨93, _⟩ => ⟨S16x3x19x19x1, .f32⟩
  | .hbm, ⟨94, _⟩ => ⟨S16x3x19x19x4, .f32⟩
  | .hbm, ⟨95, _⟩ => ⟨S16x3x19x19x81, .f32⟩
  | .hbm, ⟨96, _⟩ => ⟨S16x3x19x19x85, .f32⟩
  | .hbm, ⟨97, _⟩ => ⟨S16x1083x85, .f32⟩
  | _, _ => ⟨S16x1024x19x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Proof.Scalars.lean ====
/-
  The two scalar functions and their equality, over the extended reals.

  `decode` is the plain formula for one number of the result; `cell` is what the kernel computes from the logit and three
  table entries. They agree wherever the channel is one of the two exponential ones or the logit is at most 20.
-/
module

public import Idealize.ShloMosaic.Lib.Pointwise

@[expose] public section

noncomputable section

namespace Cert.Decode

open Idealize.ShloMosaic

/-! ## The functions -/

/-- Anchor `a`'s width in pixels. -/
def pixW (a : Nat) : Nat := if a = 0 then 116 else if a = 1 then 156 else 373

/-- Anchor `a`'s height in pixels. -/
def pixH (a : Nat) : Nat := if a = 0 then 90 else if a = 1 then 198 else 326

/-- The logistic function as the reference writes it. -/
def sig (z : EReal) : EReal := Ideal.div 1 (1 + Ideal.exp (-z))

/-- THE FORMULA: the number decoded from logit `z` for anchor `a`, channel `ch` and grid cell `p = 19 * row + column`: the two centre
    coordinates, the two box sizes (an anchor's size in cells of 32 pixels, scaled back), and scores. -/
def decode (z : EReal) (a ch p : Nat) : EReal :=
  if ch = 0 then (sig z + ((p % 19 : ℕ) : ℝ)) * ((32 : ℝ) : EReal)
  else if ch = 1 then (sig z + ((p / 19 : ℕ) : ℝ)) * ((32 : ℝ) : EReal)
  else if ch = 2 then Ideal.exp z * ((pixW a / 32 : ℝ) : EReal) * ((32 : ℝ) : EReal)
  else if ch = 3 then Ideal.exp z * ((pixH a / 32 : ℝ) : EReal) * ((32 : ℝ) : EReal)
  else sig z

/-- ONE ENTRY of the kernel's array, with `z` the logit: the exponential of `z` where `wh` is positive, and otherwise `1` for `z > 20`
    and `e^z / (1 + e^z)` below; this times the factor table's entry plus the addend table's. -/
def cell (z mul wh add : EReal) : EReal :=
  Scalar.select (Ideal.cmp .ogt wh 0) (Ideal.exp z)
    (Scalar.select (Ideal.cmp .ogt z (Ideal.ofBits .f32 0x41A00000#32)) 1 (Ideal.div (Ideal.exp z) (1 + Ideal.exp z))) * mul + add

/-- The factor the kernel's table holds for anchor `a` and channel `ch`. -/
def factor (a ch : Nat) : Nat := if ch < 2 then 32 else if ch = 2 then pixW a else if ch = 3 then pixH a else 1

/-- The addend the kernel's table holds for channel `ch` and grid cell `p`. -/
def addend (ch p : Nat) : Nat := if ch = 0 then p % 19 * 32 else if ch = 1 then p / 19 * 32 else 0

/-! ## Their equality -/

/-- The word `0x41A00000` is twenty. -/
theorem ofBits_twenty : Ideal.ofBits .f32 0x41A00000#32 = ((20 : ℝ) : EReal) := by
  simp [Ideal.ofBits, Ideal.ieee, -EReal.coe_mul]; norm_num

/-- At or below twenty, and at any finite number, the kernel's quotient is the logistic function. -/
theorem quotient_eq_sig (z : EReal) (hz : z ≤ ((20 : ℝ) : EReal)) : Ideal.div (Ideal.exp z) (1 + Ideal.exp z) = sig z := by
  rw [show sig z = Ideal.logistic z from rfl]
  induction z with
  | bot => simp [Ideal.div]
  | top => simp at hz
  | coe r =>
    have h1 : (1 + Real.exp r) ≠ 0 := by positivity
    have e1 : (1 : EReal) + Ideal.exp (r : EReal) = ((1 + Real.exp r : ℝ) : EReal) := by rw [Ideal.exp_coe]; norm_cast
    rw [e1, Ideal.div_coe h1, Ideal.logistic_coe, Ideal.exp_coe, ← EReal.coe_mul]
    congr 1
    rw [Real.exp_neg]
    have := Real.exp_pos r
    field_simp
    ring

/-- The logistic function is finite below plus infinity. -/
theorem sig_real (z : EReal) (hz : z ≤ ((20 : ℝ) : EReal)) : ∃ r : ℝ, sig z = (r : EReal) := by
  rw [show sig z = Ideal.logistic z from rfl]
  induction z with
  | bot => exact ⟨0, by simp⟩
  | top => simp at hz
  | coe r => exact ⟨_, Ideal.logistic_coe r⟩

/-- THE EQUATION: with the tables' entries the kernel's number is the formula's, on the exponential channels and wherever `z ≤ 20`. -/
theorem cell_eq_decode (z : EReal) (a ch p : Nat) (h : ch = 2 ∨ ch = 3 ∨ z ≤ ((20 : ℝ) : EReal)) :
    cell z ((factor a ch : ℝ) : EReal) (if ch = 2 ∨ ch = 3 then 1 else 0) ((addend ch p : ℝ) : EReal) = decode z a ch p := by
  have hbox (n : Nat) : Ideal.exp z * ((n : ℝ) : EReal) = Ideal.exp z * ((n / 32 : ℝ) : EReal) * ((32 : ℝ) : EReal) := by
    rw [mul_assoc, ← EReal.coe_mul]; congr 2; ring
  unfold cell
  by_cases h2 : ch = 2
  · subst h2
    simpa [Ideal.cmp, Scalar.select, factor, addend, decode] using hbox (pixW a)
  by_cases h3 : ch = 3
  · subst h3
    simpa [Ideal.cmp, Scalar.select, factor, addend, decode] using hbox (pixH a)
  have hz : z ≤ ((20 : ℝ) : EReal) := by tauto
  obtain ⟨r, hr⟩ := sig_real z hz
  rw [ofBits_twenty, quotient_eq_sig z hz]
  simp only [Ideal.cmp, hz.not_gt, Scalar.select, h2, h3, decode, hr, factor, addend]
  by_cases h0 : ch = 0
  · subst h0; simp; norm_cast; push_cast; ring
  by_cases h1 : ch = 1
  · subst h1; simp; norm_cast; push_cast; ring
  · have : ¬ ch < 2 := by omega
    simp [h0, h1, this]

end Cert.Decode
end
-- ==== Proof.Block.lean ====
/-
  What one grid step of the kernel leaves in its output block.

  A step holds eight images. For each image the kernel computes one 361 × 255 array (`k0_pay5`: grid cells by
  detector rows) and stores its three groups of 85 columns, one group per anchor, below one another. So entry
  `(j, r, ch)` of the block is entry `(r % 361, (r / 361) * 85 + ch)` of image `j`'s array.
-/
module

public import proofs.«01_k».proof.Proof.Gen.KernelIdeal.Frame
public import Idealize.ShloMosaic.Lib.Pipeline.ValueKit
public import Idealize.ShloMosaic.Lib.Pointwise
public import proofs.«01_k».proof.Proof.Scalars

@[expose] public section

set_option maxRecDepth 16384

noncomputable section

namespace Cert.Decode

open Idealize.ShloMosaic Cert.KernelIdeal Cert.KernelIdeal.Gen

variable {F : FTy → Type} [FloatOps F]

/-- Image `j` of a block of eight, as an array with a unit axis in front. -/
def slab (x : Vec F S8x1024x361 .f32) (j : Fin 8) : Vec F S1x1024x361 .f32 := fun i => x (ix3 j (i 1) (i 2))

/-- The whole weight matrix is loaded. -/
theorem ld_weights (x : Vec F S255x1024 .f32) : View.ld x r0_0 = x := by
  funext i; idx_vars i; pointwise

/-- A row of 255 is loaded whole. -/
theorem ld_row (x : Vec F S1x255 .f32) : View.ld x r0_1 = x := by
  funext i; idx_vars i; pointwise; rw [Fin.fin_one_eq_zero i0]

/-- The addend table is loaded whole. -/
theorem ld_table (x : Vec F S361x255 .f32) : View.ld x r0_2 = x := by
  funext i; idx_vars i; pointwise

/-- The load of image `j` of the block is `slab x j`. -/
theorem ld_slab (x : Vec F S8x1024x361 .f32) (j : Fin 8) (n : Nat) (h) (hj : (j : ℕ) = n) :
    View.ld x (Rect.unit (s := S8x1024x361) ![n, 0, 0] S1x1024x361.size h) = slab x j := by
  subst hj; funext i; idx_vars i; pointwise [slab]

/-- A group of 85 columns of a 361 × 255 array, stored under a new unit axis, read at an index. -/
theorem group_at {T T' : FVec F S361x255 .f32} (hT : T = T') (n : Nat) (hn : n + 85 ≤ 255) (h : S361x255.Slices ![0, n] S361x85)
    (h' : S361x85.ShapeCasts S1x361x85) (x : S1x361x85.Idx) (p : Fin 361) (o : Fin 255) (hp : (p : ℕ) = (x 1 : ℕ))
    (ho : (o : ℕ) = n + (x 2 : ℕ)) : shapeCast S1x361x85 (extractStridedSlice S361x85 ![0, n] T h) h' x = T' (ix2 p o) := by
  subst hT; idx_vars x; pointwise; congr 1; exact (congrArg₂ ix2 (Fin.ext hp) (Fin.ext ho)).symm

/-- THE BLOCK: entry `(j, r, ch)` of what a step leaves is entry `(r % 361, (r / 361) * 85 + ch)` of image `j`'s array. -/
theorem block_at (x0 : Vec F S8x1024x361 .f32) (x1 : Vec F S255x1024 .f32) (x2 x3 x4 : Vec F S1x255 .f32) (x5 : Vec F S361x255 .f32)
    (y : S8x1083x85.Idx) (p : Fin 361) (o : Fin 255) (hp : (p : ℕ) = (y 1 : ℕ) % 361) (ho : (o : ℕ) = (y 1 : ℕ) / 361 * 85 + (y 2 : ℕ)) :
    out0_6 x0 x1 x2 x3 x4 x5 y = k0_pay5 x1 x3 x4 x5 (slab x0 (y 0)) x2 (ix2 p o) := by
  canon_tiles x h
  all_goals
    simp only [k0_pay2, k0_pay3, k0_pay4, k0_pay6, k0_pay7, k0_pay8, k0_pay9, k0_pay11, k0_pay12, k0_pay13, k0_pay14, k0_pay16, k0_pay17,
      k0_pay18, k0_pay19, k0_pay21, k0_pay22, k0_pay23, k0_pay25, k0_pay26, k0_pay27, k0_pay29, k0_pay30, k0_pay31, k0_pay34, k0_pay35,
      k0_pay36, k0_pay38, k0_pay39, ld_weights, ld_row, ld_table]
    refine group_at ?_ _ (by omega) _ _ x p o (by omega) (by omega)
    rw [ld_slab x0 (y 0)]
    all_goals first | omega | rfl

/-- THE ARRAY OF ONE IMAGE at an index. -/
theorem image_at (W : FVec Ideal S255x1024 .f32) (mul wh b : FVec Ideal S1x255 .f32) (add : FVec Ideal S361x255 .f32)
    (x : FVec Ideal S1x1024x361 .f32) (p : Fin 361) (o : Fin 255) :
    k0_pay5 (F := Ideal) W mul wh add x b (ix2 p o)
      = cell ((∑ k : Fin 1024, x (ix3 0 k p) * W (ix2 o k)) + b (ix2 0 o)) (mul (ix2 0 o)) (wh (ix2 0 o)) (add (ix2 p o)) := by
  pointwise [k0_pay5, cell]

end Cert.Decode
end
-- ==== Proof.Logit.lean ====
/-
  The logit of one detector row at one grid cell: what the kernel, the reference and the mask all start from.
-/
module

public import Idealize.ShloMosaic.Lib.Pointwise

@[expose] public section

noncomputable section

namespace Cert.Decode

open Idealize.ShloMosaic

/-- THE LOGIT of image `b`, detector row `o` and grid cell `(h, w)`: the row's weights against the cell's features, plus the bias. -/
def logit (X : FVec Ideal ⟨4, ![16, 1024, 19, 19]⟩ .f32) (W : FVec Ideal ⟨2, ![255, 1024]⟩ .f32) (B : FVec Ideal ⟨1, ![255]⟩ .f32)
    (b : Fin 16) (o : Fin 255) (h w : Fin 19) : EReal :=
  (∑ k : Fin 1024, X (ix4 b k h w) * W (ix2 o k)) + B (ix1 o)

/-- The same with the weights first in each product. -/
theorem logit_comm (X : FVec Ideal ⟨4, ![16, 1024, 19, 19]⟩ .f32) (W : FVec Ideal ⟨2, ![255, 1024]⟩ .f32) (B : FVec Ideal ⟨1, ![255]⟩ .f32)
    (b : Fin 16) (o : Fin 255) (h w : Fin 19) : (∑ k : Fin 1024, W (ix2 o k) * X (ix4 b k h w)) + B (ix1 o) = logit X W B b o h w := by
  unfold logit; congr 1; exact Finset.sum_congr rfl fun k _ => mul_comm _ _

end Cert.Decode
end
-- ==== Proof.Array.lean ====
/-
  What the kernel's result array holds after the run: at `(b, r, ch)`, the `cell` of the logit of image `b`, detector row
  `(r / 361) * 85 + ch` and grid cell `r % 361`, with the entries of the three constant tables.
-/
module

public import proofs.«01_k».proof.Proof.Block
public import proofs.«01_k».proof.Proof.Logit
public import proofs.«01_k».proof.Proof.Gen.KernelIdeal.Value

@[expose] public section

set_option maxRecDepth 16384

noncomputable section

namespace Cert.Decode

open Idealize.ShloMosaic Idealize.ShloMosaic.TcCoe Idealize.SL.Sem Cert.KernelIdeal Cert.KernelIdeal.Gen
open Idealize.ShloMosaic.Pipeline (Dat)

/-- What the kernel's array holds at each index. -/
def kernelArray (X : FVec Ideal S16x1024x19x19 .f32) (W : FVec Ideal S255x1024 .f32) (B : FVec Ideal S255 .f32) :
    FVec Ideal S16x1083x85 .f32 := fun i =>
  have hr : (i 1 : ℕ) < 1083 := (i 1).isLt
  have hc : (i 2 : ℕ) < 85 := (i 2).isLt
  let p : Fin 361 := ⟨(i 1 : ℕ) % 361, by omega⟩
  let o : Fin 255 := ⟨(i 1 : ℕ) / 361 * 85 + (i 2 : ℕ), by omega⟩
  cell (logit X W B (i 0) o ⟨(p : ℕ) / 19, by omega⟩ ⟨(p : ℕ) % 19, by omega⟩)
    (Ideal.ofBits .f32 (lit0 o)) (Ideal.ofBits .f32 (lit1 o)) (Ideal.ofBits .f32 (lit2 (S361x255.rowMajor (ix2 p o))))

variable (m : (ℓ : Loc nD τ KernelIdeal.sig) → Buf (Elt Ideal) ℓ)

/-- The windows' block indices at step `t`: the images and the result move by one block a step, everything else stays. -/
theorem window_index : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![t.val, 0, 0] :=
  (by decide +kernel : ∀ t : Fin grid0.N, _)

/-- The images' block at step `t`: image `j` of the block is image `8 * t + j`, its cells row by row. -/
theorem images_at (c : Dev nD) (t : Fin cfg0.N) (j : Fin 8) (k : Fin 1024) (p : Fin 361) (b : Fin 16) (hb : (b : ℕ) = t.val * 8 + j)
    (h w : Fin 19) (hh : (h : ℕ) = p / 19) (hw : (w : ℕ) = p % 19) :
    (iblk m c 0 t : FVec Ideal S8x1024x361 .f32) (ix3 j k p) = m ((c : Thread nD τ).loc main_arg0) (ix4 b k h w) := by
  blk_simp [iblk, window_index t]
  entry_read
  pointwise
  blk_ext [window_index t]

/-- The weights' block is the weight matrix, at every step. -/
theorem weights_at (c : Dev nD) (t : Fin cfg0.N) (o : Fin 255) (k : Fin 1024) :
    (iblk m c 1 t : FVec Ideal S255x1024 .f32) (ix2 o k) = m ((c : Thread nD τ).loc main_arg1) (ix2 o k) := by
  blk_ext [iblk, V, window_index t]

/-- The bias's block is the bias, at every step. -/
theorem bias_at (c : Dev nD) (t : Fin cfg0.N) (o : Fin 255) :
    (iblk m c 2 t : FVec Ideal S1x255 .f32) (ix2 0 o) = m ((c : Thread nD τ).loc main_arg2) (ix1 o) := by
  blk_simp [iblk, window_index t]
  entry_read
  pointwise
  blk_ext [window_index t]

/-- The tables' blocks are the tables, at every step. -/
theorem factors_at (c : Dev nD) (t : Fin cfg0.N) (o : Fin 255) :
    (iblk m c 3 t : FVec Ideal S1x255 .f32) (ix2 0 o) = Ideal.ofBits .f32 (lit0 o) := by
  blk_simp [iblk, window_index t]
  entry_read
  pointwise
  have e : ((cfg0.win 3).blk t).view.emb (ix2 0 o : S1x255.Idx) = (ix2 0 o : S1x255.Idx) := by blk_ext [window_index t]
  refine congrArg (fun i => Ideal.ofBits .f32 (lit0 i)) (Fin.ext ((congrArg (fun i => (S1x255.rowMajor i).val) e).trans ?_))
  exact (rowMajor_val2 _ 255 rfl).trans (by simp [ix2])

theorem selectors_at (c : Dev nD) (t : Fin cfg0.N) (o : Fin 255) :
    (iblk m c 4 t : FVec Ideal S1x255 .f32) (ix2 0 o) = Ideal.ofBits .f32 (lit1 o) := by
  blk_simp [iblk, window_index t]
  entry_read
  pointwise
  have e : ((cfg0.win 4).blk t).view.emb (ix2 0 o : S1x255.Idx) = (ix2 0 o : S1x255.Idx) := by blk_ext [window_index t]
  refine congrArg (fun i => Ideal.ofBits .f32 (lit1 i)) (Fin.ext ((congrArg (fun i => (S1x255.rowMajor i).val) e).trans ?_))
  exact (rowMajor_val2 _ 255 rfl).trans (by simp [ix2])

theorem addends_at (c : Dev nD) (t : Fin cfg0.N) (p : Fin 361) (o : Fin 255) :
    (iblk m c 5 t : FVec Ideal S361x255 .f32) (ix2 p o) = Ideal.ofBits .f32 (lit2 (S361x255.rowMajor (ix2 p o))) := by
  blk_simp [iblk, window_index t]
  entry_read
  pointwise
  have e : ((cfg0.win 5).blk t).view.emb (ix2 p o : S361x255.Idx) = (ix2 p o : S361x255.Idx) := by blk_ext [window_index t]
  exact congrArg (fun i => Ideal.ofBits .f32 (lit2 (S361x255.rowMajor i))) e

/-- ONE STEP's block is the matching block of `kernelArray`. -/
theorem step_at (c : Dev nD) (t : Fin cfg0.N) (y : S8x1083x85.Idx) :
    out0_6 (iblk m c 0 t) (iblk m c 1 t) (iblk m c 2 t) (iblk m c 3 t) (iblk m c 4 t) (iblk m c 5 t) y
      = kernelArray (m ((c : Thread nD τ).loc main_arg0)) (m ((c : Thread nD τ).loc main_arg1)) (m ((c : Thread nD τ).loc main_arg2))
          (((cfg0.win 6).blk t).view.emb y) := by
  have ht : t.val < 2 := t.isLt
  have h0 : (y 0 : ℕ) < 8 := (y 0).isLt
  have h1 : (y 1 : ℕ) < 1083 := (y 1).isLt
  have h2 : (y 2 : ℕ) < 85 := (y 2).isLt
  have e : ((cfg0.win 6).blk t).view.emb y = (ix3 ⟨t.val * 8 + (y 0 : ℕ), by omega⟩ (y 1) (y 2) : S16x1083x85.Idx) := by
    blk_ext [window_index t]
  rw [e]
  refine (block_at _ _ _ _ _ _ y ⟨(y 1 : ℕ) % 361, by omega⟩ ⟨(y 1 : ℕ) / 361 * 85 + (y 2 : ℕ), by omega⟩ rfl rfl).trans
    ((image_at _ _ _ _ _ _ _ _).trans ?_)
  rw [factors_at, selectors_at, addends_at, bias_at]
  simp only [slab, kernelArray, logit]
  congr 2
  refine Finset.sum_congr rfl fun k _ => congrArg₂ (· * ·) ?_ (weights_at m c t _ k)
  exact images_at m c t (y 0) k _ _ rfl _ _ rfl rfl

/-- THE ARRAY after the run. -/
theorem array_eq (c : Dev nD) : (dats m 0 c).arrAt 6 (cfgs 0).N
    = kernelArray (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  exact step_at m c t y

end Cert.Decode
end
-- ==== Proof.Tree.lean ====
/-
  The kernel's addend table as a tree.

  The program holds the table's 92055 words as a tree over the digits of the row-major position. The same tree is built here
  from the closed form of the entries, and the two trees are compared node by node.
-/
module

public import proofs.«01_k».proof.KernelIdeal
public import proofs.«01_k».proof.Proof.Scalars

@[expose] public section

set_option maxRecDepth 16384

noncomputable section

namespace Cert.Decode

open Idealize.ShloMosaic

/-- The binary32 word of the natural number `n < 2 ^ 24`: the exponent of its leading bit, and the bits after it. -/
def natWord (n : Nat) : BitVec 32 :=
  if n = 0 then 0#32 else BitVec.ofNat 32 ((127 + n.log2) * 2 ^ 23 + (n * 2 ^ (23 - n.log2) - 2 ^ 23))

/-- The addend table's word at row-major position `i`, in closed form. -/
def entry (i : Nat) : BitVec 32 := natWord (addend (i % 255 % 85) (i / 255))

/-- A node with 128 branches: branch `x` of `f`. -/
def pick128 (f : Nat → BitVec 32) (x : Nat) : BitVec 32 := match x with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#32

/-- A node with 80 branches: branch `x` of `f`, the last one `g`. -/
def pick80 (f : Nat → BitVec 32) (g : BitVec 32) (x : Nat) : BitVec 32 := match x with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78
  | 79 => g
  | _ => 0#32

/-- A node with 23 branches: branch `x` of `f`. -/
def pick23 (f : Nat → BitVec 32) (x : Nat) : BitVec 32 := match x with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22
  | _ => 0#32

/-- A subtree of 16384 entries from position `16384 * a` on, read at position `i`. -/
def subtree (a i : Nat) : BitVec 32 :=
  pick128 (fun b => pick128 (fun c => entry (16384 * a + 128 * b + c)) (i % 128)) (i / 128 % 128)

/-- The last subtree, of 10135 entries. -/
def lastSubtree (i : Nat) : BitVec 32 :=
  pick80 (fun b => pick128 (fun c => entry (81920 + 128 * b + c)) (i % 128)) (pick23 (fun c => entry (92032 + c)) (i % 128)) (i / 128 % 128)

set_option maxHeartbeats 20000000 in
/-- The program's tree is the tree of the closed form. -/
theorem tree_eq (i : Nat) : KernelIdeal.lit2t i = match i / 16384 with
    | 0 => subtree 0 i | 1 => subtree 1 i | 2 => subtree 2 i | 3 => subtree 3 i | 4 => subtree 4 i | 5 => lastSubtree i
    | _ => 0#32 := by
  rfl

end Cert.Decode
end
-- ==== Proof.Tables.lean ====
/-
  The kernel's three constant tables, entry by entry.

  The program holds them as binary32 words. Here: the word of every entry is the word of a natural number given in closed form
  (`factor`, `addend`), and what such a word denotes is that number.
-/
module

public import proofs.«01_k».proof.Proof.Tree

@[expose] public section

set_option maxRecDepth 16384

noncomputable section

namespace Cert.Decode

open Idealize.ShloMosaic

/-! ## Words of natural numbers -/

/-- The numbers that the tables hold: zero and one, multiples of 32, and the anchors' sizes. -/
def held : List Nat := [1, 116, 156, 373, 90, 198, 326] ++ (List.range 19).map (32 * ·)

/-- The fields of such a number's word: the sign, the exponent of the leading bit, and the bits after it. -/
theorem fields : ∀ n ∈ held, n ≠ 0 → ((natWord n).extractLsb' 31 1 == 1#1) = false ∧ ((natWord n).extractLsb' 23 8).toNat = 127 + n.log2
    ∧ 2 ^ 23 + ((natWord n).extractLsb' 0 23).toNat = n * 2 ^ (23 - n.log2) ∧ n.log2 ≤ 23 := by
  decide +kernel

/-- The number that each word of the tables denotes. -/
theorem ofBits_natWord (n : Nat) (hn : n ∈ held) : Ideal.ofBits .f32 (natWord n) = ((n : ℝ) : EReal) := by
  rcases eq_or_ne n 0 with rfl | h0
  · simp [natWord]
  obtain ⟨hs, he, hf, hL⟩ := fields n hn h0
  change Ideal.ieee 8 23 (natWord n) = _
  unfold Ideal.ieee
  simp only [Nat.reduceAdd, hs, he, hf]
  rw [if_neg (by omega), if_neg (by omega)]
  congr 1
  obtain ⟨d, hd⟩ := Nat.exists_eq_add_of_le hL
  rw [show 23 - n.log2 = d by omega, show ((127 + n.log2 : ℕ) : ℤ) - (2 ^ (8 - 1) - 1) - (23 : ℕ) = -(d : ℤ) by push_cast; omega]
  simp [zpow_neg]

/-! ## The factor and selector tables -/

/-- The factor table's words. -/
theorem factor_words : ∀ o : Fin 255, KernelIdeal.lit0 o = natWord (factor ((o : ℕ) / 85) ((o : ℕ) % 85)) := by
  decide +kernel

/-- The selector table's words: one on the two exponential channels and zero elsewhere. -/
theorem selector_words : ∀ o : Fin 255, KernelIdeal.lit1 o = natWord (if (o : ℕ) % 85 = 2 ∨ (o : ℕ) % 85 = 3 then 1 else 0) := by
  decide +kernel

/-! ## The addend table -/

theorem pick128_eq (f : Nat → BitVec 32) (x : Nat) (h : x < 128) : pick128 f x = f x := by
  interval_cases x <;> rfl

theorem pick80_eq (f : Nat → BitVec 32) (g : BitVec 32) (x : Nat) (h : x < 80) : pick80 f g x = if x = 79 then g else f x := by
  interval_cases x <;> rfl

theorem pick23_eq (f : Nat → BitVec 32) (x : Nat) (h : x < 23) : pick23 f x = f x := by
  interval_cases x <;> rfl

/-- A subtree read at a position it holds. -/
theorem subtree_eq (a i : Nat) (h : i / 16384 = a) : subtree a i = entry i := by
  unfold subtree
  rw [pick128_eq _ _ (Nat.mod_lt _ (by decide)), pick128_eq _ _ (Nat.mod_lt _ (by decide))]
  congr 1; omega

/-- The last subtree read at a position it holds. -/
theorem lastSubtree_eq (i : Nat) (h : i / 16384 = 5) (hi : i < 92055) : lastSubtree i = entry i := by
  unfold lastSubtree
  rw [pick80_eq _ _ _ (by omega)]
  split
  · rw [pick23_eq _ _ (by omega)]; congr 1; omega
  · rw [pick128_eq _ _ (Nat.mod_lt _ (by decide))]; congr 1; omega

/-- THE ADDEND TABLE's words. -/
theorem addend_words (i : Fin 92055) : KernelIdeal.lit2 i = entry i := by
  obtain ⟨i, hi⟩ := i
  refine (tree_eq i).trans ?_
  have h6 : i / 16384 < 6 := by omega
  interval_cases hq : i / 16384
  · exact subtree_eq 0 i hq
  · exact subtree_eq 1 i hq
  · exact subtree_eq 2 i hq
  · exact subtree_eq 3 i hq
  · exact subtree_eq 4 i hq
  · exact lastSubtree_eq i hq hi

/-! ## What the tables denote -/

/-- The factor table holds each row's factor. -/
theorem factor_at (o : Fin 255) : Ideal.ofBits .f32 (KernelIdeal.lit0 o) = ((factor ((o : ℕ) / 85) ((o : ℕ) % 85) : ℝ) : EReal) := by
  rw [factor_words]
  exact ofBits_natWord _ ((by decide +kernel : ∀ o : Fin 255, factor ((o : ℕ) / 85) ((o : ℕ) % 85) ∈ held) o)

/-- The selector table holds one on the two exponential channels and zero elsewhere. -/
theorem selector_at (o : Fin 255) :
    Ideal.ofBits .f32 (KernelIdeal.lit1 o) = if (o : ℕ) % 85 = 2 ∨ (o : ℕ) % 85 = 3 then 1 else 0 := by
  rw [selector_words]
  refine (ofBits_natWord _ (by split <;> decide)).trans ?_
  split <;> simp

/-- The addend table holds each channel's addend at each cell. -/
theorem addend_at (i : Fin 92055) :
    Ideal.ofBits .f32 (KernelIdeal.lit2 i) = ((addend ((i : ℕ) % 255 % 85) ((i : ℕ) / 255) : ℝ) : EReal) := by
  rw [addend_words]
  refine ofBits_natWord _ ?_
  have hi := i.isLt
  have hw : ∀ k < 19, k * 32 ∈ held := by decide
  unfold addend
  split
  · exact hw _ (by omega)
  split
  · exact hw _ (by omega)
  · decide

end Cert.Decode
end
-- ==== Proof.Equation.lean ====
/-
  The kernel's array against the formula: wherever the channel is 2 or 3 or the logit is at most 20, the array's number is
  `decode` of the logit.
-/
module

public import proofs.«01_k».proof.Proof.Array
public import proofs.«01_k».proof.Proof.Tables
public import proofs.«01_k».proof.Proof.Scalars
public import Idealize.ShloMosaic.Lib.Pointwise

@[expose] public section

set_option maxRecDepth 16384

noncomputable section

namespace Cert.Decode

open Idealize.ShloMosaic

/-- A number of the kernel's array is the formula at its logit, where the kernel does not clamp. -/
theorem kernel_at (X : FVec Ideal ⟨4, ![16, 1024, 19, 19]⟩ .f32) (W : FVec Ideal ⟨2, ![255, 1024]⟩ .f32)
    (B : FVec Ideal ⟨1, ![255]⟩ .f32) (b : Fin 16) (r : Fin 1083) (ch : Fin 85) (z : EReal)
    (hz : logit X W B b ⟨(r : ℕ) / 361 * 85 + (ch : ℕ), by omega⟩ ⟨(r : ℕ) / 19 % 19, by omega⟩ ⟨(r : ℕ) % 19, by omega⟩ = z)
    (h : (ch : ℕ) = 2 ∨ (ch : ℕ) = 3 ∨ z ≤ ((20 : ℝ) : EReal)) :
    kernelArray X W B (ix3 b r ch) = decode z ((r : ℕ) / 361) ch ((r : ℕ) % 361) := by
  have hmod : (r : ℕ) % 361 % 19 = (r : ℕ) % 19 := Nat.mod_mod_of_dvd _ (by decide)
  have hdiv : (r : ℕ) % 361 / 19 = (r : ℕ) / 19 % 19 := Nat.mod_mul_right_div_self _ 19 19
  have hanchor : ((r : ℕ) / 361 * 85 + (ch : ℕ)) / 85 = (r : ℕ) / 361 := by omega
  have hchannel : ((r : ℕ) / 361 * 85 + (ch : ℕ)) % 85 = (ch : ℕ) := by omega
  rw [← cell_eq_decode z ((r : ℕ) / 361) ch ((r : ℕ) % 361) h]
  have hrow : ((r : ℕ) % 361 * 255 + ((r : ℕ) / 361 * 85 + (ch : ℕ))) % 255 = (r : ℕ) / 361 * 85 + (ch : ℕ) := by omega
  have hcol : ((r : ℕ) % 361 * 255 + ((r : ℕ) / 361 * 85 + (ch : ℕ))) / 255 = (r : ℕ) % 361 := by omega
  let o : Fin 255 := ⟨(r : ℕ) / 361 * 85 + (ch : ℕ), by omega⟩
  let p : Fin 361 := ⟨(r : ℕ) % 361, by omega⟩
  change cell (logit X W B b o ⟨(p : ℕ) / 19, by omega⟩ ⟨(p : ℕ) % 19, by omega⟩) (Ideal.ofBits .f32 (KernelIdeal.lit0 o))
    (Ideal.ofBits .f32 (KernelIdeal.lit1 o)) (Ideal.ofBits .f32 (KernelIdeal.lit2 (KernelIdeal.S361x255.rowMajor (ix2 p o)))) = _
  have hpos : ((KernelIdeal.S361x255.rowMajor (ix2 p o) : Fin _) : ℕ) = (r : ℕ) % 361 * 255 + ((r : ℕ) / 361 * 85 + (ch : ℕ)) :=
    rowMajor_val2 _ 255 rfl
  have hadd := addend_at (KernelIdeal.S361x255.rowMajor (ix2 p o))
  rw [hpos, hrow, hcol, hchannel] at hadd
  have hmul := factor_at o
  have hsel := selector_at o
  simp only [o, hanchor, hchannel] at hmul hsel
  have hh : (⟨(p : ℕ) / 19, by omega⟩ : Fin 19) = ⟨(r : ℕ) / 19 % 19, by omega⟩ := Fin.ext hdiv
  have hw : (⟨(p : ℕ) % 19, by omega⟩ : Fin 19) = ⟨(r : ℕ) % 19, by omega⟩ := Fin.ext hmod
  rw [hadd, hmul, hsel, hh, hw, hz]

end Cert.Decode
end
-- ==== Proof.Mask.lean ====
/-
  What the mask `unsaturated` selects: the numbers whose channel takes no logistic function, and those whose logit is at
  most 20.
-/
module

public import proofs.«01_k».proof.On_unsaturated
public import proofs.«01_k».proof.Pre_unsaturated
public import proofs.«01_k».proof.Proof.Scalars
public import proofs.«01_k».proof.Proof.Logit
public import Idealize.ShloMosaic.Lib.Pointwise

@[expose] public section

set_option maxRecDepth 16384

noncomputable section

namespace Cert.Decode

open Idealize.ShloMosaic

/-- Where the mask is set, the channel is 2 or 3 or the logit is at most 20. -/
theorem mask_at [Cert.On_unsaturated.Facts] (X : FVec Ideal ⟨4, ![16, 1024, 19, 19]⟩ .f32) (W : FVec Ideal ⟨2, ![255, 1024]⟩ .f32)
    (B : FVec Ideal ⟨1, ![255]⟩ .f32) (b : Fin 16) (r : Fin 1083) (ch : Fin 85)
    (hm : Cert.On_unsaturated.fn (F := Ideal) X W B (ix3 b r ch) = 1#1) :
    (ch : ℕ) = 2 ∨ (ch : ℕ) = 3 ∨ logit X W B b ⟨(r : ℕ) / 361 * 85 + (ch : ℕ), by omega⟩ ⟨(r : ℕ) / 19 % 19, by omega⟩
      ⟨(r : ℕ) % 19, by omega⟩ ≤ ((20 : ℝ) : EReal) := by
  rw [← logit_comm]
  revert hm
  pointwise [Cert.On_unsaturated.fn]
  intro hm
  have hch : ∀ c : Fin 85, ∀ q : BitVec 1, IntOp.ori (IntOp.ori (IntOp.cmpi .eq (BitVec.ofNat 32 c) 2#32)
      (IntOp.cmpi .eq (BitVec.ofNat 32 c) 3#32)) q = 1#1 → (c : ℕ) = 2 ∨ (c : ℕ) = 3 ∨ q = 1#1 := by decide +kernel
  refine (hch ch _ hm).imp_right (Or.imp_right fun hq => ?_)
  rw [← ofBits_twenty]
  by_contra hz
  rw [decide_eq_false hz] at hq
  exact absurd hq (by decide)

/-- The precondition's function is the mask's. -/
theorem pre_eq_mask [Cert.On_unsaturated.Facts] [Cert.Pre_unsaturated.Facts] :
    Cert.Pre_unsaturated.fn (F := Ideal) = Cert.On_unsaturated.fn (F := Ideal) := rfl

end Cert.Decode
end
-- ==== Proof.Reference.lean ====
/-
  What the reference's result holds: at `(b, r, ch)`, the `decode` formula of the logit of image `b`, detector row
  `(r / 361) * 85 + ch` and grid cell `r % 361`.
-/
module

public import proofs.«01_k».proof.Proof.Scalars
public import proofs.«01_k».proof.Proof.Logit
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Decode

open Idealize.ShloMosaic Idealize.ShloMosaic.TcCoe Idealize.SL.Sem Cert.ReferenceIdeal Cert.ReferenceIdeal.Gen

/-! ## The reference in stages: logits, activations, boxes and scores -/

/-- The channels that take the logistic function, as the reference builds them: ones written at channels 0 and 1 and then at 4 to 84. -/
def sigMask : IVec S85 1 :=
  Host.scatter scatter_S85_S81x1_S81_n_0_0_1 (fun _ b => b) (Host.scatter scatter_S85_S2x1_S2_n_0_0_1 (fun _ b => b) (broadcastInDim S85 ![]
    bcast_S_S85 (constantI S_ 1 0#1)) (broadcastInDim S2x1 ![0] bcast_S2_S2x1_0 (select (cmpi .slt ((fun i => lit0 (S2.rowMajor i)))
    (broadcastInDim S2 ![] bcast_S_S2 (constantI S_ 32 0#32))) (addi ((fun i => lit0 (S2.rowMajor i))) (broadcastInDim S2 ![] bcast_S_S2
    (constantI S_ 32 85#32))) ((fun i => lit0 (S2.rowMajor i))))) (broadcastInDim S2 ![] bcast_S_S2 (constantI S_ 1 1#1))) (broadcastInDim
    S81x1 ![0] bcast_S81_S81x1_0 (select (cmpi .slt (addi (broadcastInDim S81 ![] bcast_S_S81 (constantI S_ 32 4#32)) (iotaInDim S81 32 0))
    (broadcastInDim S81 ![] bcast_S_S81 (constantI S_ 32 0#32))) (addi (addi (broadcastInDim S81 ![] bcast_S_S81 (constantI S_ 32 4#32))
    (iotaInDim S81 32 0)) (broadcastInDim S81 ![] bcast_S_S81 (constantI S_ 32 85#32))) (addi (broadcastInDim S81 ![] bcast_S_S81 (constantI
    S_ 32 4#32)) (iotaInDim S81 32 0)))) (broadcastInDim S81 ![] bcast_S_S81 (constantI S_ 1 1#1))

/-- The logits, by image, anchor, row, column and channel. -/
def logits (X : FVec Ideal S16x1024x19x19 .f32) (W : FVec Ideal S255x1024 .f32) (B : FVec Ideal S255 .f32) : FVec Ideal S16x3x19x19x85 .f32 :=
  transpose S16x3x19x19x85 [0, 1, 3, 4, 2] (shapeCast _ (addf (transpose S16x255x19x19 [1, 0, 2, 3] (Host.dotGeneral
    dot_S255x1024_S16x1024x19x19_S255x16x19x19_1_1_0_023_n_n none W X) transposes_S255x16x19x19_S16x255x19x19_1_0_2_3) (broadcastInDim
    S16x255x19x19 ![0, 1, 2, 3] bcast_S1x255x1x1_S16x255x19x19_0_1_2_3 (broadcastInDim S1x255x1x1 ![1] bcast_S255_S1x255x1x1_1 B)))
    shapeCasts_S16x255x19x19_S16x3x85x19x19) transposes_S16x3x85x19x19_S16x3x19x19x85_0_1_3_4_2

/-- The activations: the logistic function of the logits on the channels of `sigMask`, the logits elsewhere. -/
def activated (Z : FVec Ideal S16x3x19x19x85 .f32) : FVec Ideal S16x3x19x19x85 .f32 :=
  select (broadcastInDim S16x3x19x19x85 ![4] bcast_S85_S16x3x19x19x85_4 sigMask) (Host.divf (broadcastInDim S16x3x19x19x85 ![]
    bcast_S_S16x3x19x19x85 (constant S_ .f32 0x3F800000#32)) (addf (broadcastInDim S16x3x19x19x85 ![] bcast_S_S16x3x19x19x85 (constant S_
    .f32 0x3F800000#32)) (Host.exp (Host.negf Z)))) Z

/-- The horizontal centres: channel 0 plus the column, in pixels. -/
def centreX (A : FVec Ideal S16x3x19x19x85 .f32) : FVec Ideal S16x3x19x19 .f32 :=
  mulf (addf (shapeCast _ (extractStridedSlice S16x3x19x19x1 ![0, 0, 0, 0, 0] A slices_S16x3x19x19x85_S16x3x19x19x1_0_0_0_0_0)
    shapeCasts_S16x3x19x19x1_S16x3x19x19) (broadcastInDim S16x3x19x19 ![0, 1, 2, 3] bcast_S1x1x1x19_S16x3x19x19_0_1_2_3 (broadcastInDim
    S1x1x1x19 ![3] bcast_S19_S1x1x1x19_3 (sitofp .f32 (iotaInDim S19 32 0))))) (broadcastInDim S16x3x19x19 ![] bcast_S_S16x3x19x19 (constant
    S_ .f32 0x42000000#32))

/-- The vertical centres: channel 1 plus the row, in pixels. -/
def centreY (A : FVec Ideal S16x3x19x19x85 .f32) : FVec Ideal S16x3x19x19 .f32 :=
  mulf (addf (shapeCast _ (extractStridedSlice S16x3x19x19x1 ![0, 0, 0, 0, 1] A slices_S16x3x19x19x85_S16x3x19x19x1_0_0_0_0_1)
    shapeCasts_S16x3x19x19x1_S16x3x19x19) (broadcastInDim S16x3x19x19 ![0, 1, 2, 3] bcast_S1x1x19x1_S16x3x19x19_0_1_2_3 (broadcastInDim
    S1x1x19x1 ![2] bcast_S19_S1x1x19x1_2 (sitofp .f32 (iotaInDim S19 32 0))))) (broadcastInDim S16x3x19x19 ![] bcast_S_S16x3x19x19 (constant
    S_ .f32 0x42000000#32))

/-- The widths: the exponential of channel 2, scaled by the anchor. -/
def boxW (A : FVec Ideal S16x3x19x19x85 .f32) : FVec Ideal S16x3x19x19 .f32 :=
  mulf (mulf (Host.exp (shapeCast _ (extractStridedSlice S16x3x19x19x1 ![0, 0, 0, 0, 2] A slices_S16x3x19x19x85_S16x3x19x19x1_0_0_0_0_2)
    shapeCasts_S16x3x19x19x1_S16x3x19x19)) (broadcastInDim S16x3x19x19 ![0, 1, 2, 3] bcast_S1x3x1x1_S16x3x19x19_0_1_2_3 (broadcastInDim
    S1x3x1x1 ![1] bcast_S3_S1x3x1x1_1 (shapeCast _ (extractStridedSlice S3x1 ![0, 0] ((fun i => FloatOps.ofBits .f32 (lit1 (S3x2.rowMajor
    i)))) slices_S3x2_S3x1_0_0) shapeCasts_S3x1_S3)))) (broadcastInDim S16x3x19x19 ![] bcast_S_S16x3x19x19 (constant S_ .f32 0x42000000#32))

/-- The heights: the exponential of channel 3, scaled by the anchor. -/
def boxH (A : FVec Ideal S16x3x19x19x85 .f32) : FVec Ideal S16x3x19x19 .f32 :=
  mulf (mulf (Host.exp (shapeCast _ (extractStridedSlice S16x3x19x19x1 ![0, 0, 0, 0, 3] A slices_S16x3x19x19x85_S16x3x19x19x1_0_0_0_0_3)
    shapeCasts_S16x3x19x19x1_S16x3x19x19)) (broadcastInDim S16x3x19x19 ![0, 1, 2, 3] bcast_S1x3x1x1_S16x3x19x19_0_1_2_3 (broadcastInDim
    S1x3x1x1 ![1] bcast_S3_S1x3x1x1_1 (shapeCast _ (extractStridedSlice S3x1 ![0, 1] ((fun i => FloatOps.ofBits .f32 (lit1 (S3x2.rowMajor
    i)))) slices_S3x2_S3x1_0_1) shapeCasts_S3x1_S3)))) (broadcastInDim S16x3x19x19 ![] bcast_S_S16x3x19x19 (constant S_ .f32 0x42000000#32))

/-- The four numbers of a box side by side, as channels 0 to 3. -/
def boxes (px py pw ph : FVec Ideal S16x3x19x19 .f32) : FVec Ideal S16x3x19x19x4 .f32 :=
  concatenate S16x3x19x19x4 4 [⟨S16x3x19x19x1, ((broadcastInDim S16x3x19x19x1 ![0, 1, 2, 3] bcast_S16x3x19x19_S16x3x19x19x1_0_1_2_3 px) :
    (⟨S16x3x19x19x1, .f32⟩ : BufTy).Contents (Elt Ideal))⟩, ⟨S16x3x19x19x1, ((broadcastInDim S16x3x19x19x1 ![0, 1, 2, 3]
    bcast_S16x3x19x19_S16x3x19x19x1_0_1_2_3 py) : (⟨S16x3x19x19x1, .f32⟩ : BufTy).Contents (Elt Ideal))⟩, ⟨S16x3x19x19x1, ((broadcastInDim
    S16x3x19x19x1 ![0, 1, 2, 3] bcast_S16x3x19x19_S16x3x19x19x1_0_1_2_3 pw) : (⟨S16x3x19x19x1, .f32⟩ : BufTy).Contents (Elt Ideal))⟩,
    ⟨S16x3x19x19x1, ((broadcastInDim S16x3x19x19x1 ![0, 1, 2, 3] bcast_S16x3x19x19_S16x3x19x19x1_0_1_2_3 ph) : (⟨S16x3x19x19x1, .f32⟩ :
    BufTy).Contents (Elt Ideal))⟩] concatenates_S16x3x19x19x1_S16x3x19x19x1_S16x3x19x19x1_S16x3x19x19x1_S16x3x19x19x4_d4

/-- Boxes and scores side by side, with anchor, row and column as one axis. -/
def joined (Q : FVec Ideal S16x3x19x19x4 .f32) (A : FVec Ideal S16x3x19x19x85 .f32) : FVec Ideal S16x1083x85 .f32 :=
  shapeCast _ (concatenate S16x3x19x19x85 4 [⟨S16x3x19x19x4, Q⟩, ⟨S16x3x19x19x81, (extractStridedSlice S16x3x19x19x81 ![0, 0, 0, 0, 4] A
    slices_S16x3x19x19x85_S16x3x19x19x81_0_0_0_0_4)⟩] concatenates_S16x3x19x19x4_S16x3x19x19x81_S16x3x19x19x85_d4)
    shapeCasts_S16x3x19x19x85_S16x1083x85

/-- The reference's result is the stages of its arguments. -/
theorem result_eq (m : (ℓ : Loc nD τ ReferenceIdeal.sig) → Buf (Elt Ideal) ℓ) (c : Dev nD) : Cert.ReferenceIdeal.Value.res_main_v77 m c
    = let A := activated (logits (m ((c : Thread nD τ).loc main_arg0)) (m ((c : Thread nD τ).loc main_arg1))
        (m ((c : Thread nD τ).loc main_arg2)))
      joined (boxes (centreX A) (centreY A) (boxW A) (boxH A)) A := rfl

/-! ## What their literals hold -/

/-- The mask is one everywhere but at channels 2 and 3. -/
theorem sigMask_at : ∀ i : Fin 85, sigMask (ix1 i) = BitVec.ofBool (decide (i.val ≠ 2 ∧ i.val ≠ 3)) := by
  decide +kernel

/-- The anchor table holds each anchor's width and height in cells of 32 pixels. -/
theorem anchor_at (a : Fin 3) : Ideal.ofBits .f32 (lit1 (S3x2.rowMajor (ix2 a 0))) = ((pixW a / 32 : ℝ) : EReal)
    ∧ Ideal.ofBits .f32 (lit1 (S3x2.rowMajor (ix2 a 1))) = ((pixH a / 32 : ℝ) : EReal) := by
  have words : ∀ a : Fin 3, lit1 (S3x2.rowMajor (ix2 a 0)) = (![0x40680000#32, 0x409C0000#32, 0x413A8000#32] : Fin 3 → BitVec 32) a
      ∧ lit1 (S3x2.rowMajor (ix2 a 1)) = (![0x40340000#32, 0x40C60000#32, 0x41230000#32] : Fin 3 → BitVec 32) a := by
    decide +kernel
  rw [(words a).1, (words a).2]
  fin_cases a <;> constructor <;> simp [pixW, pixH, Ideal.ofBits, Ideal.ieee, -EReal.coe_mul] <;> norm_num

/-- The word `0x42000000` is thirty-two. -/
theorem ofBits_thirtytwo : Ideal.ofBits .f32 0x42000000#32 = ((32 : ℝ) : EReal) := by
  simp [Ideal.ofBits, Ideal.ieee, -EReal.coe_mul]; norm_num

/-- A column or row number, made a float, is that number. -/
theorem sitofp_at (n : Nat) (hn : n < 19) : FloatOps.sitofp (F := Ideal) .f32 (BitVec.ofNat 32 n) = ((n : ℝ) : EReal) := by
  change (((BitVec.ofNat 32 n).toInt : ℝ) : EReal) = _
  rw [BitVec.toInt_eq_toNat_of_lt (by simp; omega), BitVec.toNat_ofNat, Nat.mod_eq_of_lt (by omega)]
  simp

/-! ## The stages at an index -/

/-- A logit. -/
theorem logits_at (X : FVec Ideal S16x1024x19x19 .f32) (W : FVec Ideal S255x1024 .f32) (B : FVec Ideal S255 .f32)
    (b : Fin 16) (a : Fin 3) (h w : Fin 19) (ch : Fin 85) :
    logits X W B (ix5 b a h w ch) = logit X W B b ⟨(a : ℕ) * 85 + (ch : ℕ), by omega⟩ h w := by
  pointwise [logits]
  exact logit_comm X W B b _ h w

/-- An activation. -/
theorem activated_at (Z : FVec Ideal S16x3x19x19x85 .f32) (b : Fin 16) (a : Fin 3) (h w : Fin 19) (ch : Fin 85) :
    activated Z (ix5 b a h w ch) = if (ch : ℕ) = 2 ∨ (ch : ℕ) = 3 then Z (ix5 b a h w ch) else sig (Z (ix5 b a h w ch)) := by
  pointwise [activated, sigMask_at]
  by_cases h2 : (ch : ℕ) = 2 <;> by_cases h3 : (ch : ℕ) = 3 <;> simp [Scalar.select, h2, h3, sig]

/-- A horizontal centre. -/
theorem centreX_at (A : FVec Ideal S16x3x19x19x85 .f32) (b : Fin 16) (a : Fin 3) (h w : Fin 19) :
    centreX A (ix4 b a h w) = (A (ix5 b a h w 0) + ((w : ℕ) : ℝ)) * ((32 : ℝ) : EReal) := by
  pointwise [centreX]
  rw [ofBits_thirtytwo, sitofp_at _ w.isLt]

/-- A vertical centre. -/
theorem centreY_at (A : FVec Ideal S16x3x19x19x85 .f32) (b : Fin 16) (a : Fin 3) (h w : Fin 19) :
    centreY A (ix4 b a h w) = (A (ix5 b a h w 1) + ((h : ℕ) : ℝ)) * ((32 : ℝ) : EReal) := by
  pointwise [centreY]
  rw [ofBits_thirtytwo, sitofp_at _ h.isLt]

/-- A width. -/
theorem boxW_at (A : FVec Ideal S16x3x19x19x85 .f32) (b : Fin 16) (a : Fin 3) (h w : Fin 19) :
    boxW A (ix4 b a h w) = Ideal.exp (A (ix5 b a h w 2)) * ((pixW a / 32 : ℝ) : EReal) * ((32 : ℝ) : EReal) := by
  pointwise [boxW]
  rw [ofBits_thirtytwo, (anchor_at a).1]

/-- A height. -/
theorem boxH_at (A : FVec Ideal S16x3x19x19x85 .f32) (b : Fin 16) (a : Fin 3) (h w : Fin 19) :
    boxH A (ix4 b a h w) = Ideal.exp (A (ix5 b a h w 3)) * ((pixH a / 32 : ℝ) : EReal) * ((32 : ℝ) : EReal) := by
  pointwise [boxH]
  rw [ofBits_thirtytwo, (anchor_at a).2]

/-- The numbers of a box, by channel. -/
theorem boxes_at (px py pw ph : FVec Ideal S16x3x19x19 .f32) (b : Fin 16) (a : Fin 3) (h w : Fin 19) (k : Fin 4) :
    boxes px py pw ph (ix5 b a h w k) = (![px, py, pw, ph] k) (ix4 b a h w) := by
  pointwise [boxes]
  fin_cases k <;> rfl

/-- The result holds the box's number on the first four channels and the activation on the others. -/
theorem joined_at (Q : FVec Ideal S16x3x19x19x4 .f32) (A : FVec Ideal S16x3x19x19x85 .f32) (b : Fin 16) (r : Fin 1083) (ch : Fin 85) :
    joined Q A (ix3 b r ch)
      = if hc : (ch : ℕ) < 4 then Q (ix5 b ⟨(r : ℕ) / 361, by omega⟩ ⟨(r : ℕ) / 19 % 19, by omega⟩ ⟨(r : ℕ) % 19, by omega⟩ ⟨ch, hc⟩)
        else A (ix5 b ⟨(r : ℕ) / 361, by omega⟩ ⟨(r : ℕ) / 19 % 19, by omega⟩ ⟨(r : ℕ) % 19, by omega⟩ ch) := by
  pointwise [joined]
  split
  · rfl
  · congr 2; exact Fin.ext (by simp only; omega)

/-- A number of the reference's result is the formula at its logit. -/
theorem reference_at (m : (ℓ : Loc nD τ ReferenceIdeal.sig) → Buf (Elt Ideal) ℓ) (c : Dev nD) (b : Fin 16) (r : Fin 1083)
    (ch : Fin 85) :
    Cert.ReferenceIdeal.Value.res_main_v77 m c (ix3 b r ch)
      = decode (logit (m ((c : Thread nD τ).loc main_arg0)) (m ((c : Thread nD τ).loc main_arg1)) (m ((c : Thread nD τ).loc main_arg2)) b
          ⟨(r : ℕ) / 361 * 85 + (ch : ℕ), by omega⟩ ⟨(r : ℕ) / 19 % 19, by omega⟩ ⟨(r : ℕ) % 19, by omega⟩)
          ((r : ℕ) / 361) ch ((r : ℕ) % 361) := by
  have hmod : (r : ℕ) % 361 % 19 = (r : ℕ) % 19 := Nat.mod_mod_of_dvd _ (by decide)
  have hdiv : (r : ℕ) % 361 / 19 = (r : ℕ) / 19 % 19 := Nat.mod_mul_right_div_self _ 19 19
  rw [result_eq]
  simp only [joined_at]
  by_cases hc : (ch : ℕ) < 4
  · rw [dif_pos hc, boxes_at]
    obtain h | h | h | h : ch = 0 ∨ ch = 1 ∨ ch = 2 ∨ ch = 3 := by omega
    · subst h; exact (centreX_at ..).trans (by simp [activated_at, logits_at, decode, hmod])
    · subst h; exact (centreY_at ..).trans (by simp [activated_at, logits_at, decode, hdiv])
    · subst h; exact (boxW_at ..).trans (by simp [activated_at, logits_at, decode])
    · subst h; exact (boxH_at ..).trans (by simp [activated_at, logits_at, decode])
  · rw [dif_neg hc, activated_at, logits_at, if_neg (by omega)]
    simp only [decode, show (ch : ℕ) ≠ 0 by omega, show (ch : ℕ) ≠ 1 by omega, show (ch : ℕ) ≠ 2 by omega, show (ch : ℕ) ≠ 3 by omega,
      if_false]

end Cert.Decode
end
-- ==== Proof.lean ====
/-
  The certificate of the box decoding kernel: the frames of the three programs, the kernel's idealization, and the equality of the
  kernel's and the reference's results over the extended reals wherever the mask `unsaturated` is set. Both runs are read at the
  formula `decode`: the kernel's in `Array` and `Equation`, the reference's in `Reference`, the mask in `Mask`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import Idealize.ShloMosaic.Adequacy
public import Idealize.ShloMosaic.Init
public import proofs.«01_k».proof.Proof.Gen.Pre_unsaturated
public import proofs.«01_k».proof.Proof.Gen.On_unsaturated
public import proofs.«01_k».proof.Proof.Array
public import proofs.«01_k».proof.Proof.Equation
public import proofs.«01_k».proof.Proof.Mask
public import proofs.«01_k».proof.Proof.Reference
public import Idealize.ShloMosaic.Lib.Quiescent

@[expose] public section

noncomputable section

namespace Cert.Proof

open Idealize.ShloMosaic Idealize.SL.Sem Cert.Decode

/-- Where the mask is set, the reference's result and the kernel's array of the same arguments agree. -/
theorem results_agree [Cert.On_unsaturated.Facts]
    (m : (ℓ : Loc Cert.ReferenceIdeal.nD Cert.ReferenceIdeal.τ Cert.ReferenceIdeal.sig) → Buf (Elt Ideal) ℓ) (c : Dev Cert.ReferenceIdeal.nD)
    (X : FVec Ideal ⟨4, ![16, 1024, 19, 19]⟩ .f32) (W : FVec Ideal ⟨2, ![255, 1024]⟩ .f32) (B : FVec Ideal ⟨1, ![255]⟩ .f32)
    (hX : m ((c.tc : Thread Cert.ReferenceIdeal.nD Cert.ReferenceIdeal.τ).loc Cert.ReferenceIdeal.main_arg0) = X)
    (hW : m ((c.tc : Thread Cert.ReferenceIdeal.nD Cert.ReferenceIdeal.τ).loc Cert.ReferenceIdeal.main_arg1) = W)
    (hB : m ((c.tc : Thread Cert.ReferenceIdeal.nD Cert.ReferenceIdeal.τ).loc Cert.ReferenceIdeal.main_arg2) = B)
    (i : (⟨3, ![16, 1083, 85]⟩ : Shape).Idx) (hm : Cert.On_unsaturated.fn (F := Ideal) X W B i = 1#1) :
    Cert.ReferenceIdeal.Value.res_main_v77 m c i = kernelArray X W B i := by
  rw [eq_ix3 i] at hm ⊢
  subst hX hW hB
  exact (reference_at m c (i 0) (i 1) (i 2)).trans (kernel_at _ _ _ (i 0) (i 1) (i 2) _ rfl (mask_at _ _ _ (i 0) (i 1) (i 2) hm)).symm

/-- The reference runs, leaves its arguments unchanged and ends with every semaphore at zero: it declares none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- The kernel's array of the arguments a memory holds on device `c`. -/
abbrev resultOf (m : (ℓ : Loc Cert.KernelIdeal.nD Cert.KernelIdeal.τ Cert.KernelIdeal.sig) → Buf (Elt Ideal) ℓ)
    (c : Dev Cert.KernelIdeal.nD) : FVec Ideal ⟨3, ![16, 1083, 85]⟩ .f32 :=
  kernelArray (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))

/-- The results are equal where the mask is set, whatever the arguments. -/
theorem equal_on_mask : Cert.algebraic_KernelIdeal_ReferenceIdeal_on_unsaturated := fun m g m' g' _ hagree =>
  ⟨resultOf m,
    (θ_run Cert.KernelIdeal.defs _ _).mono (fun _ h c => ⟨fun i _ => congrFun ((h c).1.trans (array_eq m c)) i, (h c).2⟩)
      (Cert.KernelIdeal.Value.run_blocks m g),
    (θ_run Cert.ReferenceIdeal.defs _ _).mono
      (fun _ h c => ⟨fun i hm => (congrFun (h c).1 i).trans
        (results_agree m' c _ _ _ (hagree c).1 (hagree c).2.1 (hagree c).2.2 i hm), (h c).2⟩)
      (Cert.ReferenceIdeal.Value.run m' g')⟩

/-- The results are equal everywhere, of arguments where the mask is set everywhere. -/
theorem equal_under_pre : Cert.algebraic_KernelIdeal_ReferenceIdeal_pre_unsaturated := fun m g m' g' hpre hagree =>
  ⟨resultOf m,
    (θ_run Cert.KernelIdeal.defs _ _).mono (fun _ h c => ⟨(h c).1.trans (array_eq m c), (h c).2⟩)
      (Cert.KernelIdeal.Value.run_blocks m g),
    (θ_run Cert.ReferenceIdeal.defs _ _).mono
      (fun _ h c => ⟨(h c).1.trans (funext fun i => results_agree m' c _ _ _ (hagree c).1 (hagree c).2.1 (hagree c).2.2 i
        (by rw [← pre_eq_mask]; exact congrFun (hpre c) i)), (h c).2⟩)
      (Cert.ReferenceIdeal.Value.run m' g')⟩

/-- The certificate's claims. -/
theorem claim : Cert.Claim := ⟨Cert.Kernel.Gen.facts, Cert.KernelIdeal.Gen.facts, Cert.ReferenceIdeal.Gen.facts,
  Cert.Pre_unsaturated.Gen.facts, Cert.On_unsaturated.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, equal_under_pre, equal_on_mask⟩

end Cert.Proof

end
